-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log_norm" .f32 0xC2EB3F8E#32 (((-64) * (Real.log (13176795 / 2097152)) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S128x64 : Shape := ⟨2, ![128, 64]⟩
abbrev S4096x64 : Shape := ⟨2, ![4096, 64]⟩
abbrev S2048x128 : Shape := ⟨2, ![2048, 128]⟩
abbrev S2048x64 : Shape := ⟨2, ![2048, 64]⟩
abbrev S2048 : Shape := ⟨1, ![2048]⟩
abbrev S2048x1 : Shape := ⟨2, ![2048, 1]⟩
abbrev S64 : Shape := ⟨1, ![64]⟩
abbrev S1x64 : Shape := ⟨2, ![1, 64]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S128x64, .f32⟩
  | .hbm, ⟨2, _⟩ => ⟨S4096x64, .f32⟩
  | .local _ .vmem, ⟨0, _⟩ => ⟨S2048x128, .f32⟩
  | .local _ .vmem, ⟨1, _⟩ => ⟨S2048x128, .f32⟩
  | .local _ .vmem, ⟨2, _⟩ => ⟨S128x64, .f32⟩
  | .local _ .vmem, ⟨3, _⟩ => ⟨S2048x64, .f32⟩
  | .local _ .vmem, ⟨4, _⟩ => ⟨S2048x64, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "log_norm" => some (((-64) * (Real.log (13176795 / 2097152)) : ℝ) : EReal)
  | _ => none
-- ==== ReferenceIdeal.lean ====
abbrev S4096x512 : Shape := ⟨2, ![4096, 512]⟩
abbrev S128x64 : Shape := ⟨2, ![128, 64]⟩
abbrev S128 : Shape := ⟨1, ![128]⟩
abbrev S_ : Shape := ⟨0, ![]⟩
abbrev S128x1 : Shape := ⟨2, ![128, 1]⟩
abbrev S1 : Shape := ⟨1, ![1]⟩
abbrev S1x1 : Shape := ⟨2, ![1, 1]⟩
abbrev S4096x128 : Shape := ⟨2, ![4096, 128]⟩
abbrev S4096x128x1 : Shape := ⟨3, ![4096, 128, 1]⟩
abbrev S1x128x64 : Shape := ⟨3, ![1, 128, 64]⟩
abbrev S4096x128x64 : Shape := ⟨3, ![4096, 128, 64]⟩
abbrev S4096x64 : Shape := ⟨2, ![4096, 64]⟩

abbrev nBuf : Space → Nat
  | .hbm => 44
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S128x64, .f32⟩
  | .hbm, ⟨2, _⟩ => ⟨S128, .i32⟩
  | .hbm, ⟨3, _⟩ => ⟨S_, .i32⟩
  | .hbm, ⟨4, _⟩ => ⟨S128, .i32⟩
  | .hbm, ⟨5, _⟩ => ⟨S128, .i1⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S128x1, .i32⟩
  | .hbm, ⟨11, _⟩ => ⟨S1, .i32⟩
  | .hbm, ⟨12, _⟩ => ⟨S_, .i32⟩
  | .hbm, ⟨13, _⟩ => ⟨S128x1, .i32⟩
  | .hbm, ⟨14, _⟩ => ⟨S128x1, .i1⟩
  | .hbm, ⟨15, _⟩ => ⟨S1x1, .i32⟩
  | .hbm, ⟨16, _⟩ => ⟨S128x1, .i32⟩
  | .hbm, ⟨17, _⟩ => ⟨S128x1, .i1⟩
  | .hbm, ⟨18, _⟩ => ⟨S128x1, .i1⟩
  | .hbm, ⟨19, _⟩ => ⟨S_, .i1⟩
  | .hbm, ⟨20, _⟩ => ⟨S128, .i1⟩
  | .hbm, ⟨21, _⟩ => ⟨S4096x128, .f32⟩
  | .hbm, ⟨22, _⟩ => ⟨S4096x128, .i1⟩
  | .hbm, ⟨23, _⟩ => ⟨S_, .f32⟩
  | .hbm, ⟨24, _⟩ => ⟨S4096x128, .f32⟩
  | .hbm, ⟨25, _⟩ => ⟨S4096x128, .f32⟩
  | .hbm, ⟨26, _⟩ => ⟨S4096x128x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1x128x64, .f32⟩
  | .hbm, ⟨32, _⟩ => ⟨S4096x128x64, .f32⟩
  | .hbm, ⟨33, _⟩ => ⟨S4096x128x64, .f32⟩
  | .hbm, ⟨34, _⟩ => ⟨S4096x128x64, .f32⟩
  | .hbm, ⟨35, _⟩ => ⟨S4096x128x64, .f32⟩
  | .hbm, ⟨36, _⟩ => ⟨S_, .f32⟩
  | .hbm, ⟨37, _⟩ => ⟨S4096x128x64, .f32⟩
  | .hbm, ⟨38, _⟩ => ⟨S4096x128x64, .f32⟩
  | .hbm, ⟨39, _⟩ => ⟨S_, .f32⟩
  | .hbm, ⟨40, _⟩ => ⟨S4096x128x64, .f32⟩
  | .hbm, ⟨41, _⟩ => ⟨S4096x128x64, .f32⟩
  | .hbm, ⟨42, _⟩ => ⟨S_, .f32⟩
  | .hbm, ⟨43, _⟩ => ⟨S4096x64, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_cst_0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_1 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩

abbrev nD : Nat := 1
abbrev τ : Topo := Topo.v7x

variable {F : FTy → Type} [FloatOps F]
-- ==== Proof.Gauss.Algebra.lean ====
/- The mathematics of the claim, over the extended reals and apart from both programs: the expanded square that the
   kernel adds up equals the sum of the squared differences that the reference adds up, with no finiteness assumed. -/
module

public import Idealize.ShloMosaic.PureOps.Ideal.Laws

@[expose] public section

noncomputable section

namespace Cert.Gauss

open scoped BigOperators

variable {n : ℕ}

/-- One half, as both programs multiply by it. -/
abbrev half : EReal := ((1 / 2 : ℝ) : EReal)

/-- The reference's summand at one feature: the log density of the unit normal with mean `y` at `x`, where `c` is the
    constant `-log (2 π) / 2`. -/
def logDensity (c : ℝ) (x y : EReal) : EReal := (c : EReal) - half * ((x - y) * (x - y))

/-- The kernel's expression: the product of the two vectors, less half of each squared norm, plus a constant. -/
def expanded (C : ℝ) (x y : Fin n → EReal) : EReal :=
  (∑ k, x k * y k) - half * (∑ k, x k * x k) - half * (∑ k, y k * y k) + (C : EReal)

/-- An extended real is finite or its square is `⊤`. -/
theorem coe_or_sq_top (x : EReal) : (∃ r : ℝ, x = r) ∨ x * x = ⊤ := by
  induction x using EReal.rec with
  | bot => exact Or.inr EReal.bot_mul_bot
  | coe r => exact Or.inl ⟨r, rfl⟩
  | top => exact Or.inr EReal.top_mul_top

/-- No square is negative. -/
theorem sq_nonneg' (x : EReal) : 0 ≤ x * x := by
  rcases coe_or_sq_top x with ⟨r, rfl⟩ | h
  · exact_mod_cast mul_self_nonneg r
  · rw [h]; exact le_top

/-- Half of `⊤` is `⊤`. -/
theorem half_mul_top : half * ⊤ = ⊤ := EReal.coe_mul_top_of_pos (by norm_num)

/-- A sum of squares with one infinite square is `⊤`. -/
theorem sum_sq_top (x : Fin n → EReal) (k : Fin n) (hk : x k * x k = ⊤) : ∑ i, x i * x i = ⊤ :=
  top_unique (hk ▸ Finset.single_le_sum (f := fun i => x i * x i) (fun i _ => sq_nonneg' (x i)) (Finset.mem_univ k))

/-- A sum with one term `⊥` is `⊥`. -/
theorem sum_bot (f : Fin n → EReal) (k : Fin n) (hk : f k = ⊥) : ∑ i, f i = ⊥ := by
  rw [← Finset.add_sum_erase _ _ (Finset.mem_univ k), hk, EReal.bot_add]

/-- Taking `⊤` away leaves `⊥`. -/
theorem sub_top' (a : EReal) : a - ⊤ = ⊥ := by rw [sub_eq_add_neg, EReal.neg_top, EReal.add_bot]

/-- Taking anything away from `⊥` leaves `⊥`. -/
theorem bot_sub' (a : EReal) : ⊥ - a = ⊥ := by rw [sub_eq_add_neg, EReal.bot_add]

/-- Where the point or the mean is infinite, their difference has the square `⊤`. -/
theorem sq_sub_top (x y : EReal) (h : x * x = ⊤ ∨ y * y = ⊤) : (x - y) * (x - y) = ⊤ := by
  induction x using EReal.rec <;> induction y using EReal.rec <;>
    simp_all [sub_eq_add_neg, ← EReal.coe_mul, ← EReal.coe_neg, ← EReal.coe_add]

/-- Where the point or the mean is infinite, the log density is `⊥`. -/
theorem logDensity_bot (c : ℝ) (x y : EReal) (h : x * x = ⊤ ∨ y * y = ⊤) : logDensity c x y = ⊥ := by
  rw [logDensity, sq_sub_top x y h, half_mul_top, sub_top']

/-- Where a component of the point is infinite, the kernel's expression is `⊥`. -/
theorem expanded_bot_left (C : ℝ) (x y : Fin n → EReal) (k : Fin n) (hk : x k * x k = ⊤) : expanded C x y = ⊥ := by
  rw [expanded, sum_sq_top x k hk, half_mul_top, sub_top', bot_sub', EReal.bot_add]

/-- Where a component of the mean is infinite, the kernel's expression is `⊥`. -/
theorem expanded_bot_right (C : ℝ) (x y : Fin n → EReal) (k : Fin n) (hk : y k * y k = ⊤) : expanded C x y = ⊥ := by
  rw [expanded, sum_sq_top y k hk, half_mul_top, sub_top', EReal.bot_add]

/-- The coercion of a finite sum of reals. -/
theorem coe_sum' (f : Fin n → ℝ) : ((∑ i, f i : ℝ) : EReal) = ∑ i, (f i : EReal) := by
  induction (Finset.univ : Finset (Fin n)) using Finset.induction_on with
  | empty => simp
  | insert a s ha ih => rw [Finset.sum_insert ha, Finset.sum_insert ha, EReal.coe_add, ih]

/-- On finite vectors: the binomial identity, summed. -/
theorem expanded_coe (c : ℝ) (x y : Fin n → ℝ) :
    expanded (n * c) (fun k => (x k : EReal)) (fun k => (y k : EReal)) = ∑ k, logDensity c (x k) (y k) := by
  simp only [expanded, logDensity, half, ← EReal.coe_mul, ← coe_sum', ← EReal.coe_sub, ← EReal.coe_add]
  congr 1
  simp only [Finset.sum_sub_distrib, Finset.sum_const, Finset.card_univ, Fintype.card_fin, nsmul_eq_mul, ← Finset.mul_sum]
  have e : ∑ i, (x i - y i) * (x i - y i) = ∑ i, x i * x i - 2 * ∑ i, x i * y i + ∑ i, y i * y i := by
    rw [Finset.mul_sum, ← Finset.sum_sub_distrib, ← Finset.sum_add_distrib]
    exact Finset.sum_congr rfl fun i _ => by ring
  rw [e]; ring

/-- THE EQUATION, for all vectors of extended reals: the kernel's expanded square is the sum of the log densities. -/
theorem expanded_eq_sum (c : ℝ) (x y : Fin n → EReal) : expanded (n * c) x y = ∑ k, logDensity c (x k) (y k) := by
  by_cases hx : ∃ k, x k * x k = ⊤
  · obtain ⟨k, hk⟩ := hx
    rw [expanded_bot_left _ x y k hk, sum_bot _ k (logDensity_bot c _ _ (Or.inl hk))]
  by_cases hy : ∃ k, y k * y k = ⊤
  · obtain ⟨k, hk⟩ := hy
    rw [expanded_bot_right _ x y k hk, sum_bot _ k (logDensity_bot c _ _ (Or.inr hk))]
  have hx' : ∀ k, ∃ r : ℝ, x k = r := fun k => (coe_or_sq_top (x k)).resolve_right fun h => hx ⟨k, h⟩
  have hy' : ∀ k, ∃ r : ℝ, y k = r := fun k => (coe_or_sq_top (y k)).resolve_right fun h => hy ⟨k, h⟩
  choose p hp using hx'
  choose q hq using hy'
  obtain rfl : x = fun k => (p k : EReal) := funext hp
  obtain rfl : y = fun k => (q k : EReal) := funext hq
  exact expanded_coe c p q

end Cert.Gauss

end
-- ==== Proof.Gauss.Consts.lean ====
/- The float words that the two programs spell, as the extended reals that they denote. -/
module

public import Idealize.ShloMosaic.PureOps.Ideal.Laws
public import proofs.«01_k».proof.Proof.Gauss.Algebra

@[expose] public section

noncomputable section

namespace Cert.Gauss

open Idealize.ShloMosaic

/-- `0.5`, as a real. -/
theorem ofBits_half : Ideal.ofBits .f32 0x3F000000#32 = half := by
  simp [Ideal.ofBits, Ideal.ieee, -EReal.coe_mul]; norm_num

/-- `-0.5`, as a real. -/
theorem ofBits_neg_half : Ideal.ofBits .f32 0xBF000000#32 = ((-(1 / 2) : ℝ) : EReal) := by
  simp [Ideal.ofBits, Ideal.ieee, -EReal.coe_mul]; norm_num

/-- The float32 word of `2 π`, as the rational that it is. -/
theorem ofBits_two_pi : Ideal.ofBits .f32 0x40C90FDB#32 = ((13176795 / 2097152 : ℝ) : EReal) := by
  simp [Ideal.ofBits, Ideal.ieee, -EReal.coe_mul]; norm_num

/-- The constant of one log density: minus one half times the logarithm of the word of `2 π`. -/
abbrev logNorm : ℝ := -(1 / 2) * Real.log (13176795 / 2097152)

/-- The reference's computation of it. -/
theorem ofBits_logNorm :
    Ideal.ofBits .f32 0xBF000000#32 * Ideal.log (Ideal.ofBits .f32 0x40C90FDB#32) = ((logNorm : ℝ) : EReal) := by
  rw [ofBits_neg_half, ofBits_two_pi, Ideal.log_coe, if_neg (by norm_num), ← EReal.coe_mul]

end Cert.Gauss

end
-- ==== Proof.Gauss.Block.lean ====
/- What one grid point computes, at an index of its block. -/
module

public import proofs.«01_k».proof.Proof.Gen.KernelIdeal.Skeleton
public import proofs.«01_k».proof.Proof.Gauss.Consts
public import Idealize.ShloMosaic.Lib.Pointwise

@[expose] public section

noncomputable section

open Idealize.ShloMosaic
open scoped BigOperators

namespace Cert.Gauss

open Cert.KernelIdeal Cert.KernelIdeal.Gen

/-- The kernel's named constant is 128 times the constant of one log density. -/
theorem named_logNorm : Named.named (F := Ideal) Cert.KernelIdeal.κ "log_norm" (φ := .f32) 0xC2EB3F8E#32
    = (((128 : ℕ) * logNorm : ℝ) : EReal) :=
  (IdealRules.named_const.ideal_named_scalar _ _ _ _ rfl).trans (congrArg _ (by rw [logNorm]; push_cast; ring))

/-- At row `r` of the block and mean `g`, the body computes the expanded square of that row and that mean. -/
theorem pay_apply (x : FVec Ideal S2048x128 .f32) (y : FVec Ideal S128x64 .f32) (r : Fin 2048) (g : Fin 64) :
    k0_pay1 (F := Ideal) x y (ix2 r g)
      = expanded ((128 : ℕ) * logNorm) (fun k : Fin 128 => x (ix2 r k)) (fun k => y (ix2 k g)) := by
  have h : k0_pay1 (F := Ideal) x y (ix2 r g)
      = (∑ k : Fin 128, x (ix2 r k) * y (ix2 k g))
          - Ideal.ofBits .f32 0x3F000000#32 * (∑ k : Fin 128, x (ix2 r k) * x (ix2 r k))
          - Ideal.ofBits .f32 0x3F000000#32 * (∑ k : Fin 128, y (ix2 k g) * y (ix2 k g))
        + Named.named (F := Ideal) Cert.KernelIdeal.κ "log_norm" (φ := .f32) 0xC2EB3F8E#32 := by
    pointwise [k0_pay1]
  rw [h, named_logNorm, ofBits_half]
  rfl

end Cert.Gauss

end
-- ==== Proof.Gauss.Array.lean ====
/- What the kernel's result array holds after the run: one function of the two argument arrays, index by index. -/
module

public import proofs.«01_k».proof.Proof.Gen.KernelIdeal.Value
public import proofs.«01_k».proof.Proof.Gauss.Block

@[expose] public section

noncomputable section

open Idealize.ShloMosaic Idealize.ShloMosaic.TcCoe Idealize.SL.Sem
open Idealize.ShloMosaic.Pipeline (Dat)

namespace Cert.Gauss

open Cert.KernelIdeal Cert.KernelIdeal.Gen

/-- The whole result: at row `i 0` and mean `i 1`, the expanded square of the row's first 128 entries and that mean. -/
def kernelOut (x : FVec Ideal S4096x512 .f32) (y : FVec Ideal S128x64 .f32) : FVec Ideal S4096x64 .f32 := fun i =>
  expanded ((128 : ℕ) * logNorm) (fun k : Fin 128 => x (ix2 (n0 := 4096) (n1 := 512) (i 0) (k.castLE (by decide))))
    (fun k => y (ix2 (n0 := 128) (n1 := 64) k (i 1)))

variable (m : (ℓ : Loc nD τ sig) → Buf (Elt Ideal) ℓ) (ρ : Dev nD → PrngReg)

/-- The whole result on device `c`, from its two argument arrays as launched. -/
abbrev result (c : Dev nD) : Buf (Elt Ideal) ((c : Thread nD τ).loc main_v0) :=
  kernelOut (m ((c : Thread nD τ).loc main_arg0)) (m ((c : Thread nD τ).loc main_arg1))

theorem zeros : (![0, 0] : Fin 2 → Nat) = fun _ => 0 := funext fun a => by fin_cases a <;> rfl

/-- Point `t` reads rows `2048 t` to `2048 t + 2047`, columns 0 to 127, of the first argument. -/
theorem points_apply (c : Dev nD) (t : Fin cfg0.N) (r : Fin 2048) (k : Fin 128) (R : Fin 4096)
    (hR : R.val = t.val * 2048 + r.val) :
    (iblk m c 0 t : Vec Ideal S2048x128 .f32) (ix2 r k)
      = (m ((c : Thread nD τ).loc main_arg0) : FVec Ideal S4096x512 .f32) (ix2 R (k.castLE (by decide))) := by
  have hi : win0_0.index t 0 = t.val ∧ win0_0.index t 1 = 0 := by
    rcases fin_N0 t with rfl | rfl <;> decide
  unfold iblk
  rw [View.read_apply]
  show V m c main_arg0 _ = m ((c : Thread nD τ).loc main_arg0) _
  unfold V
  congr 1
  funext a
  apply Fin.ext
  match a with
  | ⟨0, _⟩ => show win0_0.index t 0 * 2048 + 1 * r.val = R.val; rw [hi.1, hR]; omega
  | ⟨1, _⟩ => show win0_0.index t 1 * 128 + 1 * k.val = k.val; rw [hi.2]; omega

/-- Every point reads the whole second argument. -/
theorem means_apply (c : Dev nD) (t : Fin cfg0.N) (k : Fin 128) (g : Fin 64) :
    (iblk m c 1 t : Vec Ideal S128x64 .f32) (ix2 k g)
      = (m ((c : Thread nD τ).loc main_arg1) : FVec Ideal S128x64 .f32) (ix2 k g) := by
  have hi : win0_1.index t 0 = 0 ∧ win0_1.index t 1 = 0 := by
    rcases fin_N0 t with rfl | rfl <;> decide
  unfold iblk
  rw [View.read_apply]
  show V m c main_arg1 _ = m ((c : Thread nD τ).loc main_arg1) _
  unfold V
  congr 1
  funext a
  apply Fin.ext
  match a with
  | ⟨0, _⟩ => show win0_1.index t 0 * 128 + 1 * k.val = k.val; rw [hi.1]; omega
  | ⟨1, _⟩ => show win0_1.index t 1 * 64 + 1 * g.val = g.val; rw [hi.2]; omega

/-- What the body makes of the blocks of point `t` is the whole result, at row `2048 t + r`. -/
theorem block_apply (c : Dev nD) (t : Fin cfg0.N) (r : Fin 2048) (g : Fin 64) (R : Fin 4096)
    (hR : R.val = t.val * 2048 + r.val) :
    k0_pay1 (F := Ideal) (iblk m c 0 t) (iblk m c 1 t) (ix2 r g) = result m c (ix2 (n0 := 4096) (n1 := 64) R g) := by
  rw [pay_apply]
  simp only [points_apply m c t r _ R hR, means_apply m c t]
  rfl

/-- Point `t` writes back its block of the whole result. -/
theorem flushed_eq (c : Dev nD) (t : Fin cfg0.N) :
    (dats m 0 c).flushed 2 t = ((cfg0.win 2).blk t).view.read (Elt Ideal) (result m c) := by
  rw [Cert.KernelIdeal.Value.flushed2]
  unfold out0_2
  rw [View.canon_unit_zero zeros, View.ld_unit_zero zeros, View.ld_unit_zero zeros]
  have hi : win0_2.index t 0 = t.val ∧ win0_2.index t 1 = 0 := by
    rcases fin_N0 t with rfl | rfl <;> decide
  have ht : t.val < 2 := by rcases fin_N0 t with rfl | rfl <;> decide
  funext j
  have h0 : (j 0).val < 2048 := (j 0).isLt
  have h1 : (j 1).val < 64 := (j 1).isLt
  rw [View.read_apply]
  refine Eq.trans ?_ ((block_apply m c t ⟨(j 0).val, h0⟩ ⟨(j 1).val, h1⟩ ⟨t.val * 2048 + (j 0).val, by omega⟩ rfl).trans ?_)
  · show k0_pay1 (F := Ideal) (iblk m c 0 t) (iblk m c 1 t) _ = _
    congr 1
    funext a
    match a with
    | ⟨0, _⟩ => rfl
    | ⟨1, _⟩ => rfl
  · show result m c _ = result m c _
    congr 1
    funext a
    apply Fin.ext
    match a with
    | ⟨0, _⟩ => show t.val * 2048 + (j 0).val = win0_2.index t 0 * 2048 + 1 * (j 0).val; rw [hi.1]; omega
    | ⟨1, _⟩ => show (j 1).val = win0_2.index t 1 * 64 + 1 * (j 1).val; rw [hi.2]; omega

/-- An index of the result lies in the block of point `t` exactly when its row does. -/
theorem mem_blk (t : Fin cfg0.N) (i : S4096x64.Idx) (h : t.val * 2048 ≤ (i 0).val ∧ (i 0).val < t.val * 2048 + 2048) :
    i ∈ ((cfg0.win 2).blk t).view.set := by
  show i ∈ ((View.whole main_v0).slice (win0_2.rect t)).set
  rw [View.set_slice_whole, Rect.mem_set_unit]
  have h1 : (i 1).val < 64 := (i 1).isLt
  have e : win0_2.index t 0 * win0_2.size 0 = t.val * 2048 ∧ win0_2.xsize (grid0.coords t) 0 = 2048
      ∧ win0_2.index t 1 * win0_2.size 1 = 0 ∧ win0_2.xsize (grid0.coords t) 1 = 64 := by
    rcases fin_N0 t with rfl | rfl <;> decide +kernel
  intro a
  match a with
  | ⟨0, _⟩ =>
    show win0_2.index t 0 * win0_2.size 0 ≤ (i 0).val
      ∧ (i 0).val < win0_2.index t 0 * win0_2.size 0 + win0_2.xsize (grid0.coords t) 0
    rw [e.1, e.2.1]; exact h
  | ⟨1, _⟩ =>
    show win0_2.index t 1 * win0_2.size 1 ≤ (i 1).val
      ∧ (i 1).val < win0_2.index t 1 * win0_2.size 1 + win0_2.xsize (grid0.coords t) 1
    rw [e.2.2.1, e.2.2.2]; omega

/-- The two blocks fill the result array. -/
theorem cover (i : S4096x64.Idx) : ∃ t : Fin cfg0.N, (cfg0.win 2).flush t = true ∧ i ∈ ((cfg0.win 2).blk t).view.set := by
  have h0 : (i 0).val < 4096 := (i 0).isLt
  have hN : cfg0.N = 2 := N_0
  refine ⟨⟨(i 0).val / 2048, by omega⟩, flush0_2 _, mem_blk _ i ?_⟩
  dsimp only
  omega

/-- THE RESULT ARRAY after the run is the whole result. -/
theorem final_eq (c : Dev nD) : (dats m 0 c).arrAt 2 cfg0.N = result m c :=
  (dats m 0 c).arrAt_eq_of_cover 2 (result m c) (fun t _ => flushed_eq m c t) cover

/-- The kernel runs; its result array ends at the whole result, its arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩)
    (Cert.KernelIdeal.Value.run_blocks (F := Ideal) m ρ)

end Cert.Gauss

end
-- ==== Proof.Gauss.Take.lean ====
/- What the reference's `jnp.take` of columns 0 to 127 reads: the array of column numbers, the mask of columns inside the
   array, the gather, and the choice between the gathered element and the fill value, which is never taken. -/
module

public import proofs.«01_k».proof.Proof.Gen.ReferenceIdeal
public import Idealize.ShloMosaic.Lib.Pointwise
public import Idealize.ShloMosaic.Lib.ReduceAll

@[expose] public section

noncomputable section

open Idealize.ShloMosaic

namespace Cert.Gauss

open Cert.ReferenceIdeal Cert.ReferenceIdeal.Gen

/-- The column numbers the reference takes, one per row of a one-column array: 0 to 127, with 512 added where one is
    negative. -/
abbrev cols : IVec S128x1 32 :=
  broadcastInDim S128x1 ![0] bcast_S128_S128x1_0
    (select (cmpi .slt (iotaInDim S128 32 0) (broadcastInDim S128 ![] bcast_S_S128 (constantI S_ 32 0#32)))
      (addi (iotaInDim S128 32 0) (broadcastInDim S128 ![] bcast_S_S128 (constantI S_ 32 512#32))) (iotaInDim S128 32 0))

/-- The mask of the column numbers that lie between 0 and 511. -/
abbrev colsOk : IVec S128 1 :=
  Host.reduce IntOp.andi
    (andi (cmpi .sge cols (broadcastInDim S128x1 ![] bcast_S_S128x1 (constantI S_ 32 0#32)))
      (cmpi .sle cols (broadcastInDim S128x1 ![0, 1] bcast_S1x1_S128x1_0_1
        (broadcastInDim S1x1 ![1] bcast_S1_S1x1_1 (constantI S1 32 511#32)))))
    (constantI S_ 1 1#1) reducesTo_S128x1_S128_d1 h_S_

/-- The columns taken of `x`: gathered where the mask is set, the fill value elsewhere. -/
abbrev taken (x : FVec Ideal S4096x512 .f32) : FVec Ideal S4096x128 .f32 :=
  select (broadcastInDim S4096x128 ![1] bcast_S128_S4096x128_1 colsOk)
    (Host.gather gather_S4096x512_S128x1_S4096x128_0_1_n_n_1_1_40961 x cols)
    (broadcastInDim S4096x128 ![] bcast_S_S4096x128 (constant S_ .f32 0x7FC00000#32))

/-- Column number `k` is `k`: none is negative. -/
theorem cols_apply (i : S128x1.Idx) : cols i = BitVec.ofNat 32 (i 0).val := by
  have key : ∀ k : Fin 128, IntOp.cmpi .slt (BitVec.ofNat 32 k.val) 0#32 ≠ 1#1 := by decide
  have e : (cols i : BitVec 32) = if IntOp.cmpi .slt (BitVec.ofNat 32 (i 0).val) 0#32 = 1#1
      then IntOp.addi (BitVec.ofNat 32 (i 0).val) 512#32 else BitVec.ofNat 32 (i 0).val := rfl
  rw [e, if_neg (key (i 0))]

/-- Every column number lies inside the array. -/
theorem colsOk_apply (k : S128.Idx) : colsOk k = 1#1 := by
  have key : ∀ k : Fin 128, IntOp.andi (IntOp.cmpi .sge (BitVec.ofNat 32 k.val) 0#32)
      (IntOp.cmpi .sle (BitVec.ofNat 32 k.val) 511#32) = 1#1 := by decide
  refine Host.reduce_andi_one _ _ _ _ _ rfl fun i => ?_
  show IntOp.andi (IntOp.cmpi .sge (cols i) 0#32) (IntOp.cmpi .sle (cols i) 511#32) = 1#1
  rw [cols_apply]
  exact key (i 0)

/-- The gather reads row `r` of the operand at the column that the index array holds in its row `k`. -/
theorem gather_apply (x : FVec Ideal S4096x512 .f32) (idx : IVec S128x1 32) (r : Fin 4096) (k : Fin 128) (l : Fin 512)
    (h : min (idx (ix2 k 0)).toInt.toNat 511 = l.val) :
    Host.gather gather_S4096x512_S128x1_S4096x128_0_1_n_n_1_1_40961 x idx (ix2 r k) = x (ix2 r l) := by
  unfold Host.gather
  congr 1
  funext a
  refine Fin.ext ?_
  show GatherDims.start _ (ix2 r k) idx a + GatherDims.batchCoord _ (ix2 r k) a + GatherDims.offCoord _ (ix2 r k) a = _
  rw [GatherDims.batchCoord_eq_zero _ _ _ List.not_mem_nil, Nat.add_zero]
  obtain rfl | rfl : a = 0 ∨ a = 1 := by
    match a with
    | ⟨0, _⟩ => exact Or.inl rfl
    | ⟨1, _⟩ => exact Or.inr rfl
  · unfold GatherDims.start
    rw [dif_neg (by decide), Nat.zero_add]
    rfl
  · rw [GatherDims.offCoord_eq_zero _ _ _ (fun h => ((GatherDims.mem_sKept _ _).mp h).1 (by decide)), Nat.add_zero]
    unfold GatherDims.start
    rw [dif_pos (by decide)]
    refine Eq.trans ?_ h
    congr 4
    funext b
    refine Fin.ext ?_
    match b with
    | ⟨0, _⟩ => rfl
    | ⟨1, _⟩ => rfl

/-- THE COLUMNS TAKEN are the first 128 columns of the array. -/
theorem taken_apply (x : FVec Ideal S4096x512 .f32) (r : Fin 4096) (k : Fin 128) :
    taken x (ix2 r k) = x (ix2 r (k.castLE (by decide))) := by
  have key : ∀ k : Fin 128, min (BitVec.ofNat 32 k.val).toInt.toNat 511 = k.val := by decide
  have e : taken x (ix2 r k) = if colsOk (ix1 k) = 1#1
      then Host.gather gather_S4096x512_S128x1_S4096x128_0_1_n_n_1_1_40961 x cols (ix2 r k)
      else Ideal.ofBits .f32 0x7FC00000#32 := by
    show (if colsOk _ = 1#1 then _ else _) = _
    rw [colsOk_apply, colsOk_apply]
    rfl
  rw [e, if_pos (colsOk_apply _)]
  exact gather_apply x cols r k _ (by rw [cols_apply]; exact key k)

end Cert.Gauss

end
-- ==== Proof.Gauss.Reference.lean ====
/- What the reference computes, at an index of its result: the sum over the 128 features of the log densities. -/
module

public import proofs.«01_k».proof.Proof.Gauss.Take
public import proofs.«01_k».proof.Proof.Gauss.Consts
public import Idealize.ShloMosaic.Lib.Pointwise

@[expose] public section

noncomputable section

open Idealize.ShloMosaic
open scoped BigOperators

namespace Cert.Gauss

open Cert.ReferenceIdeal Cert.ReferenceIdeal.Gen

/-- The point's feature less the mean's, for every row, feature and mean. -/
abbrev diffs (z : FVec Ideal S4096x128 .f32) (y : FVec Ideal S128x64 .f32) : FVec Ideal S4096x128x64 .f32 :=
  subf (broadcastInDim S4096x128x64 ![0, 1, 2] bcast_S4096x128x1_S4096x128x64_0_1_2
      (broadcastInDim S4096x128x1 ![0, 1] bcast_S4096x128_S4096x128x1_0_1 z))
    (broadcastInDim S4096x128x64 ![0, 1, 2] bcast_S1x128x64_S4096x128x64_0_1_2
      (broadcastInDim S1x128x64 ![1, 2] bcast_S128x64_S1x128x64_1_2 y))

/-- The constant of one log density, as the reference computes it. -/
abbrev normTerm : FVec Ideal S_ .f32 :=
  id (mulf (constant S_ .f32 0xBF000000#32) (Host.log (constant S_ .f32 0x40C90FDB#32)))

/-- The reference's result array, from the columns taken and the means. -/
abbrev refOut (z : FVec Ideal S4096x128 .f32) (y : FVec Ideal S128x64 .f32) : FVec Ideal S4096x64 .f32 :=
  Host.reduceAdd
    (subf (broadcastInDim S4096x128x64 ![] bcast_S_S4096x128x64 normTerm)
      (mulf (broadcastInDim S4096x128x64 ![] bcast_S_S4096x128x64 (constant S_ .f32 0x3F000000#32))
        (mulf (diffs z y) (diffs z y))))
    (constant S_ .f32 0x00000000#32) reducesTo_S4096x128x64_S4096x64_d1 h_S_

/-- The constant is minus one half times the logarithm of the word of `2 π`. -/
theorem normTerm_apply (i : S_.Idx) : normTerm i = ((logNorm : ℝ) : EReal) := ofBits_logNorm

/-- At row `r` and mean `g`, the result array is the sum of the log densities. -/
theorem refOut_apply (z : FVec Ideal S4096x128 .f32) (y : FVec Ideal S128x64 .f32) (r : Fin 4096) (g : Fin 64) :
    refOut z y (ix2 r g) = ∑ k : Fin 128, logDensity logNorm (z (ix2 r k)) (y (ix2 k g)) := by
  have h : refOut z y (ix2 r g) = ∑ k : Fin 128, (normTerm ix0 - Ideal.ofBits .f32 0x3F000000#32
      * ((z (ix2 r k) - y (ix2 k g)) * (z (ix2 r k) - y (ix2 k g)))) := by
    pointwise [refOut, diffs]
  rw [h, normTerm_apply, ofBits_half]
  rfl

end Cert.Gauss

end
-- ==== Proof.Gauss.Claims.lean ====
/- The five claims, each from the modules beside this one. -/
module

public import proofs.«01_k».proof.Defs
public import proofs.«01_k».proof.Proof.Gen.Kernel.Frame
public import proofs.«01_k».proof.Proof.Gen.ReferenceIdeal.Run
public import proofs.«01_k».proof.Proof.Gauss.Array
public import proofs.«01_k».proof.Proof.Gauss.Reference
public import Idealize.ShloMosaic.Lib.Quiescent

@[expose] public section

noncomputable section

open Idealize.ShloMosaic Idealize.ShloMosaic.TcCoe Idealize.SL.Sem

namespace Cert.Gauss

/-- THE TWO RESULTS AGREE: the reference's result array, from the columns it takes, is the kernel's. -/
theorem refOut_eq (x : FVec Ideal Cert.ReferenceIdeal.S4096x512 .f32) (y : FVec Ideal Cert.ReferenceIdeal.S128x64 .f32) :
    refOut (taken x) y = kernelOut x y := by
  funext i
  obtain ⟨r, g, rfl⟩ : ∃ (r : Fin 4096) (g : Fin 64), i = ix2 r g := ⟨i 0, i 1, eq_ix2 i⟩
  rw [refOut_apply]
  simp only [taken_apply]
  exact (expanded_eq_sum logNorm _ _).symm

/-- The kernel ends, its arguments unchanged and its counters at zero. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- So does the reference, which declares no counter. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one rewrite: the constant named `log_norm` has the value the table gives it. -/
theorem preserves : Cert.preserves_Kernel_KernelIdeal :=
  IdealRules.named_const.statement Cert.KernelIdeal.κ "log_norm" .f32 0xC2EB3F8E#32
    (((-64) * (Real.log (13176795 / 2097152)) : ℝ) : EReal) rfl

/-- From equal arguments, whatever extended reals they hold, the idealized kernel and the reference end with equal
    results. -/
theorem algebraic : Cert.algebraic_KernelIdeal_ReferenceIdeal := by
  intro m ρ m' ρ' _ hagree
  refine ⟨fun c => result m c, run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact refOut_eq _ _

end Cert.Gauss

end
-- ==== Proof.lean ====
module

public import proofs.«01_k».proof.Defs
public import proofs.«01_k».proof.Proof.Gauss.Claims
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Gauss.frame_p, Cert.Gauss.frame_pi, Cert.Gauss.frame_ri, Cert.Gauss.preserves, Cert.Gauss.algebraic⟩

end Cert.Proof

end
